-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S16x2048 : Shape := ⟨2, ![16, 2048]⟩
abbrev S2048x16 : Shape := ⟨2, ![2048, 16]⟩
abbrev S16384x16 : Shape := ⟨2, ![16384, 16]⟩
abbrev S2048x2048 : Shape := ⟨2, ![2048, 2048]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S2048x16, .f32⟩
  | .hbm, ⟨3, _⟩ => ⟨S16384x16, .i32⟩
  | .local _ .vmem, ⟨0, _⟩ => ⟨S2048x2048, .f32⟩
  | .local _ .vmem, ⟨1, _⟩ => ⟨S2048x2048, .f32⟩
  | .local _ .vmem, ⟨2, _⟩ => ⟨S2048x16, .f32⟩
  | .local _ .vmem, ⟨3, _⟩ => ⟨S2048x16, .i32⟩
  | .local _ .vmem, ⟨4, _⟩ => ⟨S2048x16, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x2048 : Shape := ⟨2, ![16384, 2048]⟩
abbrev S16x2048 : Shape := ⟨2, ![16, 2048]⟩
abbrev S2048x16 : Shape := ⟨2, ![2048, 16]⟩
abbrev S16384x16 : Shape := ⟨2, ![16384, 16]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S2048x16, .f32⟩
  | .hbm, ⟨3, _⟩ => ⟨S16384x16, .f32⟩
  | .hbm, ⟨4, _⟩ => ⟨S16384x16, .f32⟩
  | .hbm, ⟨5, _⟩ => ⟨S16384x16, .f32⟩
  | .hbm, ⟨6, _⟩ => ⟨S_, .f32⟩
  | .hbm, ⟨7, _⟩ => ⟨S16384x16, .f32⟩
  | .hbm, ⟨8, _⟩ => ⟨S16384x16, .f32⟩
  | .hbm, ⟨9, _⟩ => ⟨S_, .f32⟩
  | .hbm, ⟨10, _⟩ => ⟨S16384x16, .f32⟩
  | .hbm, ⟨11, _⟩ => ⟨S16384x16, .f32⟩
  | .hbm, ⟨12, _⟩ => ⟨S_, .f32⟩
  | .hbm, ⟨13, _⟩ => ⟨S16384x16, .f32⟩
  | .hbm, ⟨14, _⟩ => ⟨S16384x16, .i1⟩
  | .hbm, ⟨15, _⟩ => ⟨S_, .i32⟩
  | .hbm, ⟨16, _⟩ => ⟨S_, .i32⟩
  | .hbm, ⟨17, _⟩ => ⟨S16384x16, .i32⟩
  | .hbm, ⟨18, _⟩ => ⟨S16384x16, .i32⟩
  | .hbm, ⟨19, _⟩ => ⟨S16384x16, .i32⟩
  | .hbm, ⟨20, _⟩ => ⟨S16384x16, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.Sigmoid.lean ====
/-
  Hand-written. The one fact of real arithmetic in this certificate: over the extended reals the sigmoid of a logit exceeds
  one half exactly when the logit is positive.
-/
module

public import Idealize.ShloMosaic.PureOps.Ideal
public import Idealize.ShloMosaic.PureOps.Ideal.Laws

@[expose] public section

noncomputable section

namespace Cert.Gate

open Idealize.ShloMosaic

/-- The float word of `0.5` denotes one half. -/
theorem half_word : Ideal.ofBits .f32 0x3F000000#32 = ((1 / 2 : ℝ) : EReal) := by
  have hex : (BitVec.extractLsb' 23 8 (0x3F000000#32)).toNat = 126 := by decide
  have hfr : (BitVec.extractLsb' 0 23 (0x3F000000#32)).toNat = 0 := by decide
  have hsg : (BitVec.extractLsb' (8 + 23) 1 (0x3F000000#32) == 1#1) = false := by decide
  simp only [Ideal.ofBits, Ideal.ieee, hex, hfr, hsg]
  norm_num [zpow_neg, ← one_div]

/-- For a real logit `r`: `1 / (1 + e⁻ʳ) > 1/2` exactly when `r > 0`. -/
theorem half_lt_real (r : ℝ) : 1 / 2 < (1 + Real.exp (-r))⁻¹ ↔ 0 < r := by
  have hpos : 0 < 1 + Real.exp (-r) := by positivity
  rw [one_div, inv_lt_inv₀ (by norm_num) hpos]
  constructor
  · intro h
    have : Real.exp (-r) < 1 := by linarith
    rw [Real.exp_lt_one_iff] at this
    linarith
  · intro h
    have : Real.exp (-r) < 1 := by
      rw [Real.exp_lt_one_iff]
      linarith
    linarith

/-- The same for every extended real: at `-∞` the sigmoid is `0`, at `+∞` it is `1`. -/
theorem half_lt_sigmoid (x : EReal) : ((1 / 2 : ℝ) : EReal) < Ideal.logistic x ↔ 0 < x := by
  induction x with
  | bot => simp
  | top =>
    rw [Ideal.logistic_top]
    refine ⟨fun _ => EReal.zero_lt_top, fun _ => ?_⟩
    exact_mod_cast (by norm_num : (1 / 2 : ℝ) < 1)
  | coe r =>
    rw [Ideal.logistic_coe, EReal.coe_lt_coe_iff, half_lt_real]
    exact_mod_cast Iff.rfl

/-- The mask word of a logit: one where the logit is positive, zero elsewhere. -/
def bit (x : EReal) : BitVec 32 := if 0 < x then 1#32 else 0#32

end Cert.Gate

end
-- ==== Proof.Block.lean ====
/-
  Hand-written. What one grid point of the kernel computes: from a block of tokens and the transposed gate weights, the mask
  words of the block's logits.
-/
module

public import proofs.«01_k».proof.Proof.Gen.KernelIdeal.Skeleton
public import proofs.«01_k».proof.Proof.Sigmoid
public import Idealize.ShloMosaic.Lib.Pointwise

@[expose] public section

set_option maxRecDepth 16384

noncomputable section

namespace Cert.Gate

open Idealize.ShloMosaic Cert.KernelIdeal Cert.KernelIdeal.Gen

/-- Comparing with zero and widening the truth value to 32 bits gives the mask word. -/
theorem widen_positive (x : EReal) :
    BitVec.setWidth 32 (BitVec.ofBool (decide (0 < x))) = bit x := by
  unfold bit
  by_cases h : 0 < x <;> simp [h]

/-- Row `r`, expert `e` of the body's one stored value: the mask word of the logit of the block's row `r` and expert `e`. -/
theorem block_value (x : Vec Ideal S2048x2048 .f32) (w : Vec Ideal S2048x16 .f32) (r : Fin 2048) (e : Fin 16) :
    k0_pay1 (F := Ideal) x w (ix2 r e) = bit (∑ k : Fin 2048, x (ix2 r k) * w (ix2 k e)) := by
  unfold k0_pay1
  pointwise
  exact widen_positive _

end Cert.Gate

end
-- ==== Proof.KernelValue.lean ====
/-
  Hand-written. What the kernel's result array holds after the run: the mask of every token and expert, as one function of the
  two argument arrays. Each grid point writes its block of 2048 tokens, and the eight blocks cover the array.
-/
module

public import proofs.«01_k».proof.Proof.Gen.KernelIdeal.Frame
public import proofs.«01_k».proof.Proof.Block
public import Idealize.ShloMosaic.Lib.Pipeline.ValueKit
public import Idealize.ShloMosaic.Lib.Claim

@[expose] public section

set_option maxRecDepth 16384

noncomputable section

namespace Cert.Gate

open Idealize.ShloMosaic Idealize.SL.Sem Idealize.ShloMosaic.TcCoe Cert.KernelIdeal Cert.KernelIdeal.Gen

/-- The mask of every token (axis 0) and expert (axis 1): the mask word of the logit, the inner product of the token's hidden
    state with the expert's gate weights. -/
def mask (x : Vec Ideal S16384x2048 .f32) (w : Vec Ideal S16x2048 .f32) : Vec Ideal S16384x16 .i32 :=
  fun i => bit (∑ k : Fin 2048, x (ix2 (i 0) k) * w (ix2 (i 1) k))

variable (m : (ℓ : Loc nD τ sig) → Buf (Elt Ideal) ℓ) (ρ : Dev nD → PrngReg)

/-- The block index of the token window at point `t` is `(t, 0)`. -/
theorem tokens_index : ∀ t : Fin cfg0.N, win0_0.index t = ![t.val, 0] :=
  (by decide +kernel : ∀ t : Fin grid0.N, win0_0.index t = ![t.val, 0])

/-- The weight window shows the whole array at every point. -/
theorem weights_index : ∀ t : Fin cfg0.N, win0_1.index t = ![0, 0] :=
  (by decide +kernel : ∀ t : Fin grid0.N, win0_1.index t = ![0, 0])

/-- The block index of the result window at point `t` is `(t, 0)`. -/
theorem result_index : ∀ t : Fin cfg0.N, win0_2.index t = ![t.val, 0] :=
  (by decide +kernel : ∀ t : Fin grid0.N, win0_2.index t = ![t.val, 0])

/-- The array that the weight window stages is the transpose of the gate weights. -/
theorem weights_entry (c : Dev nD) (k : Fin 2048) (e : Fin 16) :
    V m c main_call0_v0 (ix2 k e) = m ((c : Thread nD τ).loc main_arg1) (ix2 e k) := by
  have h : V m c main_call0_v0
      = transpose S2048x16 [1, 0] (m ((c : Thread nD τ).loc main_arg1)) transposes_S16x2048_S2048x16_1_0 := by
    entry_read
    rfl
  rw [h]
  pointwise

/-- The result array after the run is the mask of the two argument arrays. -/
theorem final_mask (c : Dev nD) :
    (dats (F := Ideal) m 0 c).arrAt 2 cfg0.N
      = mask (m ((c : Thread nD τ).loc main_arg0)) (m ((c : Thread nD τ).loc main_arg1)) := by
  refine (dats m 0 c).arrAt_eq_of_covers 2 _ (by decide +kernel) fun t hf y => ?_
  idx_vars y
  blk_simp
  rw [after0_2]
  frame_out
  rw [block_value]
  unfold mask
  refine congrArg bit (Finset.sum_congr rfl fun k _ => ?_)
  blk_simp [iblk]
  have ht : t.val < 8 := lt_of_lt_of_eq t.isLt N_0
  have e0 : (win0_0.blk t).view.emb (ix2 y0 k) = ix2 ((win0_2.blk t).view.emb (ix2 y0 y1) 0) k := by
    blk_ext [tokens_index, result_index]
  have e1 : (win0_1.blk t).view.emb (ix2 k y1) = ix2 k ((win0_2.blk t).view.emb (ix2 y0 y1) 1) := by
    blk_ext [weights_index, result_index]
  rw [e0, e1]
  exact congrArg₂ (· * ·) (congrFun (V_main_arg0 m c) _) (weights_entry m c k _)

end Cert.Gate

end
-- ==== Proof.ReferenceValue.lean ====
/-
  Hand-written. What the reference computes: its one result array is the mask, since the sigmoid of a logit exceeds one half
  exactly when the logit is positive.
-/
module

public import proofs.«01_k».proof.Proof.Gen.ReferenceIdeal.Read
public import proofs.«01_k».proof.Proof.KernelValue

@[expose] public section

set_option maxRecDepth 16384

noncomputable section

namespace Cert.Gate

open Idealize.ShloMosaic Cert.ReferenceIdeal Cert.ReferenceIdeal.Read

/-- The reference's logit of token `i 0` and expert `i 1` is the inner product. -/
theorem reference_logit (x : Vec Ideal S16384x2048 .f32) (w : Vec Ideal S16x2048 .f32) (i : S16384x16.Idx) :
    val_main_v1 (F := Ideal) x w i = ∑ k : Fin 2048, x (ix2 (i 0) k) * w (ix2 (i 1) k) := by
  rw [val_main_v1_apply]
  refine Finset.sum_congr rfl fun k _ => ?_
  rw [val_main_v0_apply]
  refine congrArg₂ (· * ·) (congrArg x ?_) (congrArg w ?_) <;>
  · funext a
    match a with
    | ⟨0, _⟩ => rfl
    | ⟨1, _⟩ => rfl

/-- The reference's gate, before the comparison, is the sigmoid of the logit. -/
theorem reference_sigmoid (x : Vec Ideal S16384x2048 .f32) (w : Vec Ideal S16x2048 .f32) (i : S16384x16.Idx) :
    val_main_v7 (F := Ideal) x w i = Ideal.logistic (val_main_v1 (F := Ideal) x w i) := by
  rw [val_main_v7_apply, val_main_v6_apply, val_main_cst_0_apply, val_main_v5_apply, val_main_v4_apply, val_main_cst_apply,
    val_main_v3_apply, val_main_v2_apply]
  show Ideal.div (Ideal.ofBits .f32 0x3F800000#32) (Ideal.ofBits .f32 0x3F800000#32 + Ideal.exp (-_)) = _
  rw [Ideal.ofBits_one_f32]
  rfl

/-- The reference's result is the mask of its two arguments. -/
theorem reference_mask (x : Vec Ideal S16384x2048 .f32) (w : Vec Ideal S16x2048 .f32) :
    val_main_v11 (F := Ideal) x w = mask x w := by
  funext i
  rw [val_main_v11_apply, val_main_v10_apply, val_main_v9_apply, reference_sigmoid, val_main_v8_apply, val_main_cst_1_apply,
    val_main_call0_v0_apply, val_main_c_apply, val_main_call0_v1_apply, val_main_c_2_apply, reference_logit]
  show Scalar.select (Ideal.cmp .ogt _ (Ideal.ofBits .f32 0x3F000000#32)) _ _ = bit _
  generalize (∑ k : Fin 2048, x (ix2 (i 0) k) * w (ix2 (i 1) k)) = l
  rw [half_word]
  unfold Ideal.cmp bit
  simp only [half_lt_sigmoid, Scalar.select]
  by_cases hl : 0 < l <;> simp [hl]

end Cert.Gate

end
-- ==== Proof.lean ====
/-
  Hand-written. The proof of `Cert.Claim` (proof/Defs.lean): the three frames, and the equality over the extended reals of the
  kernel's result and the reference's: both are the mask `Cert.Gate.mask` of the two arguments
  (Proof/KernelValue.lean, Proof/ReferenceValue.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelValue
public import proofs.«01_k».proof.Proof.ReferenceValue
public import Idealize.ShloMosaic.Lib.Claim
public import Idealize.ShloMosaic.Lib.Quiescent

@[expose] public section

set_option maxRecDepth 16384

noncomputable section

namespace Cert.Proof

open Idealize.ShloMosaic Idealize.SL.Sem

/-- The reference runs, leaves its arguments unchanged and its counters at zero. -/
theorem reference_frame : Cert.quiescent_ReferenceIdeal (hReferenceIdeal := Cert.ReferenceIdeal.Gen.facts) := by
  intro m g _
  hlo_run
  · exact fun _ => ⟨trivial, trivial⟩
  · exact sem_eq_zero_of_no_sems (by decide) _

/-- From equal arguments the kernel and the reference both end with the mask of the arguments. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main (F := Ideal) m g
  · run_from Cert.ReferenceIdeal.Value.run (F := Ideal) m' g'
    exact (Cert.Gate.reference_mask _ _).trans (Cert.Gate.final_mask m c).symm

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
